-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_affine_splines [hPre_affine_splines : Cert.Pre_affine_splines.Facts] (m : (ℓ : Loc Cert.KernelIdeal.nD Cert.KernelIdeal.τ Cert.KernelIdeal.sig) → Buf (Elt Ideal) ℓ) : Prop :=
  ∀ c : Dev Cert.KernelIdeal.nD,
    (Cert.Pre_affine_splines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_affine_splines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_affine_splines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_affine_splines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_affine_splines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_affine_splines [hPre_affine_splines : Cert.Pre_affine_splines.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_affine_splines.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_affine_splines.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_affine_splines.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_affine_splines.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_affine_splines.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_affine_splines [hKernelIdeal : Cert.KernelIdeal.Facts] [hPre_affine_splines : Cert.Pre_affine_splines.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_affine_splines m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_affine_splines [hReferenceIdeal : Cert.ReferenceIdeal.Facts] [hPre_affine_splines : Cert.Pre_affine_splines.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_affine_splines m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_affine_splines [hKernelIdeal : Cert.KernelIdeal.Facts] [hReferenceIdeal : Cert.ReferenceIdeal.Facts] [hPre_affine_splines : Cert.Pre_affine_splines.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_affine_splines m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_affine_splines : Cert.Pre_affine_splines.Facts),
    quiescent_Kernel (hKernel := hKernel)
    ∧ quiescent_KernelIdeal (hKernelIdeal := hKernelIdeal)
    ∧ quiescent_KernelIdeal_pre_affine_splines (hKernelIdeal := hKernelIdeal) (hPre_affine_splines := hPre_affine_splines)
    ∧ quiescent_ReferenceIdeal (hReferenceIdeal := hReferenceIdeal)
    ∧ quiescent_ReferenceIdeal_pre_affine_splines (hReferenceIdeal := hReferenceIdeal) (hPre_affine_splines := hPre_affine_splines)
    ∧ preserves_Kernel_KernelIdeal
    ∧ algebraic_KernelIdeal_ReferenceIdeal_pre_affine_splines (hKernelIdeal := hKernelIdeal) (hReferenceIdeal := hReferenceIdeal) (hPre_affine_splines := hPre_affine_splines)
-- ==== Pre_affine_splines.lean ====
abbrev S1024x128 : Shape := ⟨2, ![1024, 128]⟩
abbrev S128x128x16 : Shape := ⟨3, ![128, 128, 16]⟩
abbrev S128x128x1 : Shape := ⟨3, ![128, 128, 1]⟩
abbrev S128x128 : Shape := ⟨2, ![128, 128]⟩
abbrev S_ : Shape := ⟨0, ![]⟩
abbrev S128x128x15 : Shape := ⟨3, ![128, 128, 15]⟩

class Facts : Prop where
  slices_S128x128x16_S128x128x1_0_0_0 : S128x128x16.Slices ![0, 0, 0] S128x128x1
  slices_S128x128x16_S128x128x1_0_0_15 : S128x128x16.Slices ![0, 0, 15] S128x128x1
  shapeCasts_S128x128x1_S128x128 : S128x128x1.ShapeCasts S128x128
  bcast_S_S128x128 : S_.BroadcastsInDim S128x128 (![] : Fin 0 → Fin S128x128.rank)
  slices_S128x128x16_S128x128x15_0_0_0 : S128x128x16.Slices ![0, 0, 0] S128x128x15
  slices_S128x128x16_S128x128x15_0_0_1 : S128x128x16.Slices ![0, 0, 1] S128x128x15
  bcast_S_S128x128x16 : S_.BroadcastsInDim S128x128x16 (![] : Fin 0 → Fin S128x128x16.rank)
  bcast_S128x128x1_S128x128x16_0_1_2 : S128x128x1.BroadcastsInDim S128x128x16 (![0, 1, 2] : Fin 3 → Fin S128x128x16.rank)

variable [Facts]

def fn_part1 {F : FTy → Type} [FloatOps F] (main_arg1 : FVec F S128x128x16 .f32) (main_v0 : FVec F S128x128x1 .f32) (main_v1 : FVec F S128x128x1 .f32) (main_v5 : IVec S128x128 1) (main_v9 : IVec S128x128 1) (main_v12 : IVec S128x128x15 1) (main_v15 : IVec S128x128x16 1) (main_v19 : FVec F S128x128x16 .f32) : IVec S128x128 1 × IVec S128x128 1 × IVec S128x128x15 1 × IVec S128x128x16 1 × IVec S128x128x16 1 :=
  let main_v20 : FVec F S128x128x1 .f32 := subf main_v1 main_v0
  let main_cst_3 : FVec F S_ .f32 := constant S_ .f32 0x3F800000#32
  let main_v21 : FVec F S128x128x16 .f32 := broadcastInDim S128x128x16 ![] bcast_S_S128x128x16 main_cst_3
  let main_v22 : FVec F S128x128x16 .f32 := addf main_arg1 main_v21
  let main_v23 : FVec F S128x128x16 .f32 := broadcastInDim S128x128x16 ![0, 1, 2] bcast_S128x128x1_S128x128x16_0_1_2 main_v20
  let main_v24 : FVec F S128x128x16 .f32 := mulf main_v23 main_v22
  let main_v25 : IVec S128x128x16 1 := cmpf .oeq main_v19 main_v24
  (main_v5, main_v9, main_v12, main_v15, main_v25)

def fn {F : FTy → Type} [FloatOps F] (main_arg0 : FVec F S1024x128 .f32) (main_arg1 : FVec F S128x128x16 .f32) (main_arg2 : FVec F S128x128x16 .f32) : IVec S128x128 1 × IVec S128x128 1 × IVec S128x128x15 1 × IVec S128x128x16 1 × IVec S128x128x16 1 :=
  let main_v0 : FVec F S128x128x1 .f32 := (extractStridedSlice S128x128x1 ![0, 0, 0] · slices_S128x128x16_S128x128x1_0_0_0) main_arg2
  let main_v1 : FVec F S128x128x1 .f32 := (extractStridedSlice S128x128x1 ![0, 0, 15] · slices_S128x128x16_S128x128x1_0_0_15) main_arg2
  let main_v2 : FVec F S128x128x1 .f32 := (extractStridedSlice S128x128x1 ![0, 0, 0] · slices_S128x128x16_S128x128x1_0_0_0) main_arg1
  let main_v3 : FVec F S128x128 .f32 := shapeCast S128x128 main_v2 shapeCasts_S128x128x1_S128x128
  let main_cst : FVec F S_ .f32 := constant S_ .f32 0xBF800000#32
  let main_v4 : FVec F S128x128 .f32 := broadcastInDim S128x128 ![] bcast_S_S128x128 main_cst
  let main_v5 : IVec S128x128 1 := cmpf .oeq main_v3 main_v4
  let main_v6 : FVec F S128x128x1 .f32 := (extractStridedSlice S128x128x1 ![0, 0, 15] · slices_S128x128x16_S128x128x1_0_0_15) main_arg1
  let main_v7 : FVec F S128x128 .f32 := shapeCast S128x128 main_v6 shapeCasts_S128x128x1_S128x128
  let main_cst_0 : FVec F S_ .f32 := constant S_ .f32 0x3F800000#32
  let main_v8 : FVec F S128x128 .f32 := broadcastInDim S128x128 ![] bcast_S_S128x128 main_cst_0
  let main_v9 : IVec S128x128 1 := cmpf .oeq main_v7 main_v8
  let main_v10 : FVec F S128x128x15 .f32 := (extractStridedSlice S128x128x15 ![0, 0, 0] · slices_S128x128x16_S128x128x15_0_0_0) main_arg1
  let main_v11 : FVec F S128x128x15 .f32 := (extractStridedSlice S128x128x15 ![0, 0, 1] · slices_S128x128x16_S128x128x15_0_0_1) main_arg1
  let main_v12 : IVec S128x128x15 1 := cmpf .ole main_v10 main_v11
  let main_v13 : FVec F S128x128x16 .f32 := Host.absf main_arg2
  let main_cst_1 : FVec F S_ .f32 := constant S_ .f32 0x7F800000#32
  let main_v14 : FVec F S128x128x16 .f32 := broadcastInDim S128x128x16 ![] bcast_S_S128x128x16 main_cst_1
  let main_v15 : IVec S128x128x16 1 := cmpf .olt main_v13 main_v14
  let main_v16 : FVec F S128x128x16 .f32 := broadcastInDim S128x128x16 ![0, 1, 2] bcast_S128x128x1_S128x128x16_0_1_2 main_v0
  let main_v17 : FVec F S128x128x16 .f32 := subf main_arg2 main_v16
  let main_cst_2 : FVec F S_ .f32 := constant S_ .f32 0x40000000#32
  let main_v18 : FVec F S128x128x16 .f32 := broadcastInDim S128x128x16 ![] bcast_S_S128x128x16 main_cst_2
  let main_v19 : FVec F S128x128x16 .f32 := mulf main_v18 main_v17
  fn_part1 (F := F) main_arg1 main_v0 main_v1 main_v5 main_v9 main_v12 main_v15 main_v19
-- ==== Kernel.lean ====
abbrev S1024x128 : Shape := ⟨2, ![1024, 128]⟩
abbrev S128x128x16 : Shape := ⟨3, ![128, 128, 16]⟩
abbrev S128x128x1 : Shape := ⟨3, ![128, 128, 1]⟩
abbrev S128x128 : Shape := ⟨2, ![128, 128]⟩
abbrev S128 : Shape := ⟨1, ![128]⟩
abbrev S1x128 : Shape := ⟨2, ![1, 128]⟩

abbrev nBuf : Space → Nat
  | .hbm => 8
  | .vmem => 4
  | .smem => 0
  | _ => 0

abbrev bufTy : (tb : Table) → Fin (tcTables nBuf tb) → BufTy
  | .hbm, ⟨0, _⟩ => ⟨S1024x128, .f32⟩
  | .hbm, ⟨1, _⟩ => ⟨S128x128x16, .f32⟩
  | .hbm, ⟨2, _⟩ => ⟨S128x128x16, .f32⟩
  | .hbm, ⟨3, _⟩ => ⟨S128x128x1, .f32⟩
  | .hbm, ⟨4, _⟩ => ⟨S128x128, .f32⟩
  | .hbm, ⟨5, _⟩ => ⟨S128x128x1, .f32⟩
  | .hbm, ⟨6, _⟩ => ⟨S128x128, .f32⟩
  | .hbm, ⟨7, _⟩ => ⟨S1024x128, .f32⟩
  | .local _ .vmem, ⟨0, _⟩ => ⟨S1024x128, .f32⟩
  | .local _ .vmem, ⟨1, _⟩ => ⟨S128x128, .f32⟩
  | .local _ .vmem, ⟨2, _⟩ => ⟨S128x128, .f32⟩
  | .local _ .vmem, ⟨3, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x128 : Shape := ⟨2, ![1024, 128]⟩
abbrev S128x128x16 : Shape := ⟨3, ![128, 128, 16]⟩
abbrev S_ : Shape := ⟨0, ![]⟩
abbrev S1024x128x1 : Shape := ⟨3, ![1024, 128, 1]⟩
abbrev S1024x128x128 : Shape := ⟨3, ![1024, 128, 128]⟩
abbrev S128x128x1 : Shape := ⟨3, ![128, 128, 1]⟩
abbrev S128x128 : Shape := ⟨2, ![128, 128]⟩
abbrev S1x128x128 : Shape := ⟨3, ![1, 128, 128]⟩
abbrev S1x128x128x16 : Shape := ⟨4, ![1, 128, 128, 16]⟩
abbrev S1024x128x128x1 : Shape := ⟨4, ![1024, 128, 128, 1]⟩
abbrev S1024x128x128x1x1 : Shape := ⟨5, ![1024, 128, 128, 1, 1]⟩
abbrev S1 : Shape := ⟨1, ![1]⟩
abbrev S1x1x1x1x1 : Shape := ⟨5, ![1, 1, 1, 1, 1]⟩

abbrev nBuf : Space → Nat
  | .hbm => 270
  | .vmem => 0
  | .smem => 0
  | _ => 0

abbrev hbmTy0_0 (i : Nat) : BufTy := match i % 128 with
  | 0 => ⟨S1024x128, .f32⟩
  | 1 => ⟨S128x128x16, .f32⟩
  | 2 => ⟨S128x128x16, .f32⟩
  | 3 => ⟨S_, .f32⟩
  | 4 => ⟨S1024x128, .f32⟩
  | 5 => ⟨S1024x128, .i1⟩
  | 6 => ⟨S1024x128, .f32⟩
  | 7 => ⟨S1024x128, .f32⟩
  | 8 => ⟨S_, .f32⟩
  | 9 => ⟨S_, .f32⟩
  | 10 => ⟨S_, .f32⟩
  | 11 => ⟨S1024x128, .f32⟩
  | 12 => ⟨S1024x128, .f32⟩
  | 13 => ⟨S_, .f32⟩
  | 14 => ⟨S1024x128, .f32⟩
  | 15 => ⟨S1024x128, .f32⟩
  | 16 => ⟨S1024x128x1, .f32⟩
  | 17 => ⟨S_, .i32⟩
  | 18 => ⟨S1024x128x128, .i32⟩
  | 19 => ⟨S128x128x1, .f32⟩
  | 20 => ⟨S128x128, .f32⟩
  | 21 => ⟨S1x128x128, .f32⟩
  | 22 => ⟨S1024x128x128, .f32⟩
  | 23 => ⟨S1024x128x128, .f32⟩
  | 24 => ⟨S1024x128x128, .i1⟩
  | 25 => ⟨S1024x128x128, .i32⟩
  | 26 => ⟨S1024x128x128, .i32⟩
  | 27 => ⟨S128x128x1, .f32⟩
  | 28 => ⟨S128x128, .f32⟩
  | 29 => ⟨S1x128x128, .f32⟩
  | 30 => ⟨S1024x128x128, .f32⟩
  | 31 => ⟨S1024x128x128, .f32⟩
  | 32 => ⟨S1024x128x128, .i1⟩
  | 33 => ⟨S1024x128x128, .i32⟩
  | 34 => ⟨S1024x128x128, .i32⟩
  | 35 => ⟨S128x128x1, .f32⟩
  | 36 => ⟨S128x128, .f32⟩
  | 37 => ⟨S1x128x128, .f32⟩
  | 38 => ⟨S1024x128x128, .f32⟩
  | 39 => ⟨S1024x128x128, .f32⟩
  | 40 => ⟨S1024x128x128, .i1⟩
  | 41 => ⟨S1024x128x128, .i32⟩
  | 42 => ⟨S1024x128x128, .i32⟩
  | 43 => ⟨S128x128x1, .f32⟩
  | 44 => ⟨S128x128, .f32⟩
  | 45 => ⟨S1x128x128, .f32⟩
  | 46 => ⟨S1024x128x128, .f32⟩
  | 47 => ⟨S1024x128x128, .f32⟩
  | 48 => ⟨S1024x128x128, .i1⟩
  | 49 => ⟨S1024x128x128, .i32⟩
  | 50 => ⟨S1024x128x128, .i32⟩
  | 51 => ⟨S128x128x1, .f32⟩
  | 52 => ⟨S128x128, .f32⟩
  | 53 => ⟨S1x128x128, .f32⟩
  | 54 => ⟨S1024x128x128, .f32⟩
  | 55 => ⟨S1024x128x128, .f32⟩
  | 56 => ⟨S1024x128x128, .i1⟩
  | 57 => ⟨S1024x128x128, .i32⟩
  | 58 => ⟨S1024x128x128, .i32⟩
  | 59 => ⟨S128x128x1, .f32⟩
  | 60 => ⟨S128x128, .f32⟩
  | 61 => ⟨S1x128x128, .f32⟩
  | 62 => ⟨S1024x128x128, .f32⟩
  | 63 => ⟨S1024x128x128, .f32⟩
  | 64 => ⟨S1024x128x128, .i1⟩
  | 65 => ⟨S1024x128x128, .i32⟩
  | 66 => ⟨S1024x128x128, .i32⟩
  | 67 => ⟨S128x128x1, .f32⟩
  | 68 => ⟨S128x128, .f32⟩
  | 69 => ⟨S1x128x128, .f32⟩
  | 70 => ⟨S1024x128x128, .f32⟩
  | 71 => ⟨S1024x128x128, .f32⟩
  | 72 => ⟨S1024x128x128, .i1⟩
  | 73 => ⟨S1024x128x128, .i32⟩
  | 74 => ⟨S1024x128x128, .i32⟩
  | 75 => ⟨S128x128x1, .f32⟩
  | 76 => ⟨S128x128, .f32⟩
  | 77 => ⟨S1x128x128, .f32⟩
  | 78 => ⟨S1024x128x128, .f32⟩
  | 79 => ⟨S1024x128x128, .f32⟩
  | 80 => ⟨S1024x128x128, .i1⟩
  | 81 => ⟨S1024x128x128, .i32⟩
  | 82 => ⟨S1024x128x128, .i32⟩
  | 83 => ⟨S128x128x1, .f32⟩
  | 84 => ⟨S128x128, .f32⟩
  | 85 => ⟨S1x128x128, .f32⟩
  | 86 => ⟨S1024x128x128, .f32⟩
  | 87 => ⟨S1024x128x128, .f32⟩
  | 88 => ⟨S1024x128x128, .i1⟩
  | 89 => ⟨S1024x128x128, .i32⟩
  | 90 => ⟨S1024x128x128, .i32⟩
  | 91 => ⟨S128x128x1, .f32⟩
  | 92 => ⟨S128x128, .f32⟩
  | 93 => ⟨S1x128x128, .f32⟩
  | 94 => ⟨S1024x128x128, .f32⟩
  | 95 => ⟨S1024x128x128, .f32⟩
  | 96 => ⟨S1024x128x128, .i1⟩
  | 97 => ⟨S1024x128x128, .i32⟩
  | 98 => ⟨S1024x128x128, .i32⟩
  | 99 => ⟨S128x128x1, .f32⟩
  | 100 => ⟨S128x128, .f32⟩
  | 101 => ⟨S1x128x128, .f32⟩
  | 102 => ⟨S1024x128x128, .f32⟩
  | 103 => ⟨S1024x128x128, .f32⟩
  | 104 => ⟨S1024x128x128, .i1⟩
  | 105 => ⟨S1024x128x128, .i32⟩
  | 106 => ⟨S1024x128x128, .i32⟩
  | 107 => ⟨S128x128x1, .f32⟩
  | 108 => ⟨S128x128, .f32⟩
  | 109 => ⟨S1x128x128, .f32⟩
  | 110 => ⟨S1024x128x128, .f32⟩
  | 111 => ⟨S1024x128x128, .f32⟩
  | 112 => ⟨S1024x128x128, .i1⟩
  | 113 => ⟨S1024x128x128, .i32⟩
  | 114 => ⟨S1024x128x128, .i32⟩
  | 115 => ⟨S128x128x1, .f32⟩
  | 116 => ⟨S128x128, .f32⟩
  | 117 => ⟨S1x128x128, .f32⟩
  | 118 => ⟨S1024x128x128, .f32⟩
  | 119 => ⟨S1024x128x128, .f32⟩
  | 120 => ⟨S1024x128x128, .i1⟩
  | 121 => ⟨S1024x128x128, .i32⟩
  | 122 => ⟨S1024x128x128, .i32⟩
  | 123 => ⟨S128x128x1, .f32⟩
  | 124 => ⟨S128x128, .f32⟩
  | 125 => ⟨S1x128x128, .f32⟩
  | 126 => ⟨S1024x128x128, .f32⟩
  | 127 => ⟨S1024x128x128, .f32⟩
  | _ => ⟨S1024x128, .f32⟩

abbrev hbmTy0_1 (i : Nat) : BufTy := match i % 128 with
  | 0 => ⟨S1024x128x128, .i1⟩
  | 1 => ⟨S1024x128x128, .i32⟩
  | 2 => ⟨S1024x128x128, .i32⟩
  | 3 => ⟨S1x128x128x16, .f32⟩
  | 4 => ⟨S1x128x128x16, .f32⟩
  | 5 => ⟨S1024x128x128x1, .i32⟩
  | 6 => ⟨S_, .i32⟩
  | 7 => ⟨S1024x128x128x1, .i32⟩
  | 8 => ⟨S1024x128x128x1, .i1⟩
  | 9 => ⟨S_, .i32⟩
  | 10 => ⟨S1024x128x128x1, .i32⟩
  | 11 => ⟨S1024x128x128x1, .i32⟩
  | 12 => ⟨S1024x128x128x1, .i32⟩
  | 13 => ⟨S1024x128x128x1x1, .i32⟩
  | 14 => ⟨S128x128x16, .f32⟩
  | 15 => ⟨S1, .i32⟩
  | 16 => ⟨S_, .i32⟩
  | 17 => ⟨S1024x128x128x1x1, .i32⟩
  | 18 => ⟨S1024x128x128x1x1, .i1⟩
  | 19 => ⟨S1x1x1x1x1, .i32⟩
  | 20 => ⟨S1024x128x128x1x1, .i32⟩
  | 21 => ⟨S1024x128x128x1x1, .i1⟩
  | 22 => ⟨S1024x128x128x1x1, .i1⟩
  | 23 => ⟨S_, .i1⟩
  | 24 => ⟨S1024x128x128x1, .i1⟩
  | 25 => ⟨S1024x128x128x1, .f32⟩
  | 26 => ⟨S_, .f32⟩
  | 27 => ⟨S1024x128x128x1, .f32⟩
  | 28 => ⟨S1024x128x128x1, .f32⟩
  | 29 => ⟨S1024x128x128, .f32⟩
  | 30 => ⟨S_, .i32⟩
  | 31 => ⟨S1024x128x128, .i32⟩
  | 32 => ⟨S1024x128x128, .i32⟩
  | 33 => ⟨S1024x128x128x1, .i32⟩
  | 34 => ⟨S_, .i32⟩
  | 35 => ⟨S1024x128x128x1, .i32⟩
  | 36 => ⟨S1024x128x128x1, .i1⟩
  | 37 => ⟨S_, .i32⟩
  | 38 => ⟨S1024x128x128x1, .i32⟩
  | 39 => ⟨S1024x128x128x1, .i32⟩
  | 40 => ⟨S1024x128x128x1, .i32⟩
  | 41 => ⟨S1024x128x128x1x1, .i32⟩
  | 42 => ⟨S128x128x16, .f32⟩
  | 43 => ⟨S1, .i32⟩
  | 44 => ⟨S_, .i32⟩
  | 45 => ⟨S1024x128x128x1x1, .i32⟩
  | 46 => ⟨S1024x128x128x1x1, .i1⟩
  | 47 => ⟨S1x1x1x1x1, .i32⟩
  | 48 => ⟨S1024x128x128x1x1, .i32⟩
  | 49 => ⟨S1024x128x128x1x1, .i1⟩
  | 50 => ⟨S1024x128x128x1x1, .i1⟩
  | 51 => ⟨S_, .i1⟩
  | 52 => ⟨S1024x128x128x1, .i1⟩
  | 53 => ⟨S1024x128x128x1, .f32⟩
  | 54 => ⟨S_, .f32⟩
  | 55 => ⟨S1024x128x128x1, .f32⟩
  | 56 => ⟨S1024x128x128x1, .f32⟩
  | 57 => ⟨S1024x128x128, .f32⟩
  | 58 => ⟨S1024x128x128x1, .i32⟩
  | 59 => ⟨S_, .i32⟩
  | 60 => ⟨S1024x128x128x1, .i32⟩
  | 61 => ⟨S1024x128x128x1, .i1⟩
  | 62 => ⟨S_, .i32⟩
  | 63 => ⟨S1024x128x128x1, .i32⟩
  | 64 => ⟨S1024x128x128x1, .i32⟩
  | 65 => ⟨S1024x128x128x1, .i32⟩
  | 66 => ⟨S1024x128x128x1x1, .i32⟩
  | 67 => ⟨S128x128x16, .f32⟩
  | 68 => ⟨S1, .i32⟩
  | 69 => ⟨S_, .i32⟩
  | 70 => ⟨S1024x128x128x1x1, .i32⟩
  | 71 => ⟨S1024x128x128x1x1, .i1⟩
  | 72 => ⟨S1x1x1x1x1, .i32⟩
  | 73 => ⟨S1024x128x128x1x1, .i32⟩
  | 74 => ⟨S1024x128x128x1x1, .i1⟩
  | 75 => ⟨S1024x128x128x1x1, .i1⟩
  | 76 => ⟨S_, .i1⟩
  | 77 => ⟨S1024x128x128x1, .i1⟩
  | 78 => ⟨S1024x128x128x1, .f32⟩
  | 79 => ⟨S_, .f32⟩
  | 80 => ⟨S1024x128x128x1, .f32⟩
  | 81 => ⟨S1024x128x128x1, .f32⟩
  | 82 => ⟨S1024x128x128, .f32⟩
  | 83 => ⟨S_, .i32⟩
  | 84 => ⟨S1024x128x128, .i32⟩
  | 85 => ⟨S1024x128x128, .i32⟩
  | 86 => ⟨S1024x128x128x1, .i32⟩
  | 87 => ⟨S_, .i32⟩
  | 88 => ⟨S1024x128x128x1, .i32⟩
  | 89 => ⟨S1024x128x128x1, .i1⟩
  | 90 => ⟨S_, .i32⟩
  | 91 => ⟨S1024x128x128x1, .i32⟩
  | 92 => ⟨S1024x128x128x1, .i32⟩
  | 93 => ⟨S1024x128x128x1, .i32⟩
  | 94 => ⟨S1024x128x128x1x1, .i32⟩
  | 95 => ⟨S128x128x16, .f32⟩
  | 96 => ⟨S1, .i32⟩
  | 97 => ⟨S_, .i32⟩
  | 98 => ⟨S1024x128x128x1x1, .i32⟩
  | 99 => ⟨S1024x128x128x1x1, .i1⟩
  | 100 => ⟨S1x1x1x1x1, .i32⟩
  | 101 => ⟨S1024x128x128x1x1, .i32⟩
  | 102 => ⟨S1024x128x128x1x1, .i1⟩
  | 103 => ⟨S1024x128x128x1x1, .i1⟩
  | 104 => ⟨S_, .i1⟩
  | 105 => ⟨S1024x128x128x1, .i1⟩
  | 106 => ⟨S1024x128x128x1, .f32⟩
  | 107 => ⟨S_, .f32⟩
  | 108 => ⟨S1024x128x128x1, .f32⟩
  | 109 => ⟨S1024x128x128x1, .f32⟩
  | 110 => ⟨S1024x128x128, .f32⟩
  | 111 => ⟨S1024x128x128, .f32⟩
  | 112 => ⟨S_, .f32⟩
  | 113 => ⟨S1024x128x128, .f32⟩
  | 114 => ⟨S1024x128x128, .i1⟩
  | 115 => ⟨S1024x128x128, .f32⟩
  | 116 => ⟨S1024x128x128, .f32⟩
  | 117 => ⟨S_, .f32⟩
  | 118 => ⟨S1024x128x128, .f32⟩
  | 119 => ⟨S1024x128x128, .i1⟩
  | 120 => ⟨S_, .f32⟩
  | 121 => ⟨S_, .f32⟩
  | 122 => ⟨S1024x128x128, .f32⟩
  | 123 => ⟨S1024x128x128, .f32⟩
  | 124 => ⟨S1024x128x128, .f32⟩
  | 125 => ⟨S_, .f32⟩
  | 126 => ⟨S_, .f32⟩
  | 127 => ⟨S1024x128x128, .f32⟩
  | _ => ⟨S1024x128, .f32⟩

abbrev hbmTy0_2 (i : Nat) : BufTy := match i % 128 with
  | 0 => ⟨S1024x128x128, .f32⟩
  | 1 => ⟨S_, .f32⟩
  | 2 => ⟨S_, .f32⟩
  | 3 => ⟨S_, .f32⟩
  | 4 => ⟨S1024x128x128, .f32⟩
  | 5 => ⟨S1024x128x128, .f32⟩
  | 6 => ⟨S_, .f32⟩
  | 7 => ⟨S1024x128x128, .f32⟩
  | 8 => ⟨S1024x128x128, .f32⟩
  | 9 => ⟨S1024x128x128, .f32⟩
  | 10 => ⟨S1024x128x128, .f32⟩
  | 11 => ⟨S1024x128x128, .f32⟩
  | 12 => ⟨S_, .f32⟩
  | 13 => ⟨S1024x128, .f32⟩
  | _ => ⟨S1024x128, .f32⟩

abbrev hbmTy (i : Nat) : BufTy := match i / 128 with
  | 0 => hbmTy0_0 i
  | 1 => hbmTy0_1 i
  | 2 => hbmTy0_2 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_cst_1 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_call2_c : Ref sig .tc := ⟨.hbm, 134, rfl⟩
abbrev main_call2_v0 : Ref sig .tc := ⟨.hbm, 135, rfl⟩
abbrev main_call2_v1 : Ref sig .tc := ⟨.hbm, 136, rfl⟩
abbrev main_call2_c_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_c_1 : Ref sig .tc := ⟨.hbm, 143, rfl⟩
abbrev main_call2_c_2 : Ref sig .tc := ⟨.hbm, 144, rfl⟩
abbrev main_call2_v7 : Ref sig .tc := ⟨.hbm, 145, rfl⟩
abbrev main_call2_v8 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_v12 : Ref sig .tc := ⟨.hbm, 150, rfl⟩
abbrev main_call2_c_3 : Ref sig .tc := ⟨.hbm, 151, rfl⟩
abbrev main_call2_v13 : Ref sig .tc := ⟨.hbm, 152, rfl⟩
abbrev main_call2_v14 : Ref sig .tc := ⟨.hbm, 153, rfl⟩
abbrev main_call2_cst : Ref sig .tc := ⟨.hbm, 154, rfl⟩
abbrev main_call2_v15 : Ref sig .tc := ⟨.hbm, 155, rfl⟩
abbrev main_v122 : Ref sig .tc := ⟨.hbm, 156, rfl⟩
abbrev main_v123 : Ref sig .tc := ⟨.hbm, 157, rfl⟩
abbrev main_c_2 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_call3_c : Ref sig .tc := ⟨.hbm, 162, rfl⟩
abbrev main_call3_v0 : Ref sig .tc := ⟨.hbm, 163, rfl⟩
abbrev main_call3_v1 : Ref sig .tc := ⟨.hbm, 164, rfl⟩
abbrev main_call3_c_0 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_v6 : Ref sig .tc := ⟨.hbm, 170, rfl⟩
abbrev main_call3_c_1 : Ref sig .tc := ⟨.hbm, 171, rfl⟩
abbrev main_call3_c_2 : Ref sig .tc := ⟨.hbm, 172, rfl⟩
abbrev main_call3_v7 : Ref sig .tc := ⟨.hbm, 173, rfl⟩
abbrev main_call3_v8 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_v12 : Ref sig .tc := ⟨.hbm, 178, rfl⟩
abbrev main_call3_c_3 : Ref sig .tc := ⟨.hbm, 179, rfl⟩
abbrev main_call3_v13 : Ref sig .tc := ⟨.hbm, 180, rfl⟩
abbrev main_call3_v14 : Ref sig .tc := ⟨.hbm, 181, rfl⟩
abbrev main_call3_cst : Ref sig .tc := ⟨.hbm, 182, rfl⟩
abbrev main_call3_v15 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_call4_c : Ref sig .tc := ⟨.hbm, 187, rfl⟩
abbrev main_call4_v0 : Ref sig .tc := ⟨.hbm, 188, rfl⟩
abbrev main_call4_v1 : Ref sig .tc := ⟨.hbm, 189, rfl⟩
abbrev main_call4_c_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_v6 : Ref sig .tc := ⟨.hbm, 195, rfl⟩
abbrev main_call4_c_1 : Ref sig .tc := ⟨.hbm, 196, rfl⟩
abbrev main_call4_c_2 : Ref sig .tc := ⟨.hbm, 197, rfl⟩
abbrev main_call4_v7 : Ref sig .tc := ⟨.hbm, 198, rfl⟩
abbrev main_call4_v8 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_v12 : Ref sig .tc := ⟨.hbm, 203, rfl⟩
abbrev main_call4_c_3 : Ref sig .tc := ⟨.hbm, 204, rfl⟩
abbrev main_call4_v13 : Ref sig .tc := ⟨.hbm, 205, rfl⟩
abbrev main_call4_v14 : Ref sig .tc := ⟨.hbm, 206, rfl⟩
abbrev main_call4_cst : Ref sig .tc := ⟨.hbm, 207, rfl⟩
abbrev main_call4_v15 : Ref sig .tc := ⟨.hbm, 208, rfl⟩
abbrev main_v130 : Ref sig .tc := ⟨.hbm, 209, rfl⟩
abbrev main_v131 : Ref sig .tc := ⟨.hbm, 210, rfl⟩
abbrev main_c_3 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_call5_c : Ref sig .tc := ⟨.hbm, 215, rfl⟩
abbrev main_call5_v0 : Ref sig .tc := ⟨.hbm, 216, rfl⟩
abbrev main_call5_v1 : Ref sig .tc := ⟨.hbm, 217, rfl⟩
abbrev main_call5_c_0 : Ref sig .tc := ⟨.hbm, 218, rfl⟩
abbrev main_call5_v2 : Ref sig .tc := ⟨.hbm, 219, rfl⟩
abbrev main_call5_v3 : Ref sig .tc := ⟨.hbm, 220, rfl⟩
abbrev main_call5_v4 : Ref sig .tc := ⟨.hbm, 221, rfl⟩
abbrev main_call5_v5 : Ref sig .tc := ⟨.hbm, 222, rfl⟩
abbrev main_call5_v6 : Ref sig .tc := ⟨.hbm, 223, rfl⟩
abbrev main_call5_c_1 : Ref sig .tc := ⟨.hbm, 224, rfl⟩
abbrev main_call5_c_2 : Ref sig .tc := ⟨.hbm, 225, rfl⟩
abbrev main_call5_v7 : Ref sig .tc := ⟨.hbm, 226, rfl⟩
abbrev main_call5_v8 : Ref sig .tc := ⟨.hbm, 227, rfl⟩
abbrev main_call5_v9 : Ref sig .tc := ⟨.hbm, 228, rfl⟩
abbrev main_call5_v10 : Ref sig .tc := ⟨.hbm, 229, rfl⟩
abbrev main_call5_v11 : Ref sig .tc := ⟨.hbm, 230, rfl⟩
abbrev main_call5_v12 : Ref sig .tc := ⟨.hbm, 231, rfl⟩
abbrev main_call5_c_3 : Ref sig .tc := ⟨.hbm, 232, rfl⟩
abbrev main_call5_v13 : Ref sig .tc := ⟨.hbm, 233, rfl⟩
abbrev main_call5_v14 : Ref sig .tc := ⟨.hbm, 234, rfl⟩
abbrev main_call5_cst : Ref sig .tc := ⟨.hbm, 235, rfl⟩
abbrev main_call5_v15 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_cst_4 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_cst_5 : Ref sig .tc := ⟨.hbm, 245, rfl⟩
abbrev main_v142 : Ref sig .tc := ⟨.hbm, 246, rfl⟩
abbrev main_v143 : Ref sig .tc := ⟨.hbm, 247, rfl⟩
abbrev main_cst_6 : Ref sig .tc := ⟨.hbm, 248, rfl⟩
abbrev main_call6_v0 : Ref sig .tc := ⟨.hbm, 249, rfl⟩
abbrev main_call6_v1 : Ref sig .tc := ⟨.hbm, 250, rfl⟩
abbrev main_v144 : Ref sig .tc := ⟨.hbm, 251, rfl⟩
abbrev main_v145 : Ref sig .tc := ⟨.hbm, 252, rfl⟩
abbrev main_cst_7 : Ref sig .tc := ⟨.hbm, 253, rfl⟩
abbrev main_call7_v0 : Ref sig .tc := ⟨.hbm, 254, rfl⟩
abbrev main_call7_v1 : Ref sig .tc := ⟨.hbm, 255, rfl⟩
abbrev main_v146 : Ref sig .tc := ⟨.hbm, 256, rfl⟩
abbrev main_cst_8 : Ref sig .tc := ⟨.hbm, 257, rfl⟩
abbrev main_cst_9 : Ref sig .tc := ⟨.hbm, 258, rfl⟩
abbrev main_call8_v0 : Ref sig .tc := ⟨.hbm, 259, rfl⟩
abbrev main_call8_v1 : Ref sig .tc := ⟨.hbm, 260, rfl⟩
abbrev main_call8_v2 : Ref sig .tc := ⟨.hbm, 261, rfl⟩
abbrev main_call8_v3 : Ref sig .tc := ⟨.hbm, 262, rfl⟩
abbrev main_call8_v4 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_cst_10 : Ref sig .tc := ⟨.hbm, 268, rfl⟩
abbrev main_v151 : Ref sig .tc := ⟨.hbm, 269, rfl⟩

abbrev nD : Nat := 1
abbrev τ : Topo := Topo.v7x

variable {F : FTy → Type} [FloatOps F]
-- ==== Proof.Spline.lean ====
/-
  The scalar mathematics of the claim, apart from any array.

  An (input, output) pair of the layer has sixteen knots, sorted, from -1 to 1, and a value at each knot. The reference
  folds the input to a real number between -1 and 0, counts the inner knots that are not above it, reads the knot and
  the value on each side, and interpolates. When the values lie on one line, what comes out is the point of that line
  above the folded input, which needs the first and the last value only (`interp_affine`).
-/
module

public import Idealize.ShloMosaic.PureOps.Ideal.Laws
public import Mathlib.Tactic.Linarith
public import Mathlib.Tactic.FieldSimp
public import Mathlib.Tactic.Ring

@[expose] public section

noncomputable section

namespace Cert.Spline

open Idealize.ShloMosaic

/-! ## The folded input -/

/-- The kernel's folded input: the greater of `-|x|` and `-1`. -/
def folded (x : EReal) : EReal := max (0 - max x (-x)) ((-1 : ℝ) : EReal)

/-- The folded input of any extended real, the infinities included, is a real number between -1 and 0. -/
theorem folded_real (x : EReal) : ∃ ξ : ℝ, -1 ≤ ξ ∧ ξ ≤ 0 ∧ folded x = (ξ : EReal) := by
  unfold folded
  induction x with
  | bot => exact ⟨-1, le_rfl, by norm_num, by simp⟩
  | top => exact ⟨-1, le_rfl, by norm_num, by simp⟩
  | coe r =>
    refine ⟨max (0 - max r (-r)) (-1), le_max_right _ _, ?_, by norm_cast⟩
    refine max_le ?_ (by norm_num)
    have := abs_nonneg r
    rw [abs_eq_max_neg] at this
    linarith

/-- The reference folds the input with a select and then clips it to [-1, 1]; that is the kernel's folded input. -/
theorem clip_fold (x : EReal) :
    min (1 : EReal) (max ((-1 : ℝ) : EReal) (if x < 0 then x else -x)) = folded x := by
  have hfold : (if x < 0 then x else -x) = 0 - max x (-x) := by
    rw [zero_sub]
    split
    · next h =>
      have : x ≤ -x := h.le.trans (by simpa using EReal.neg_le_neg_iff.mpr h.le)
      rw [max_eq_right this, neg_neg]
    · next h =>
      have h0 : 0 ≤ x := not_lt.mp h
      have : -x ≤ x := (by simpa using EReal.neg_le_neg_iff.mpr h0 : -x ≤ 0).trans h0
      rw [max_eq_left this]
  rw [hfold, max_comm]
  change min 1 (folded x) = folded x
  obtain ⟨ξ, _, h1, hx⟩ := folded_real x
  rw [hx]
  refine min_eq_right ?_
  have : (ξ : EReal) ≤ ((1 : ℝ) : EReal) := EReal.coe_le_coe_iff.mpr (by linarith)
  exact_mod_cast this

/-! ## The count of knots -/

/-- The 32-bit count of the set bits among `b 1`, …, `b k`, added in that order. -/
def countWord (b : ℕ → BitVec 1) : ℕ → BitVec 32
  | 0 => 0#32
  | k + 1 => countWord b k + (b (k + 1)).setWidth 32

/-- When a set bit has only set bits before it, the count is the number of the last set bit: bit `k` is set exactly when
    `k` is at most the count. -/
theorem countWord_spec (b : ℕ → BitVec 1) (K : ℕ) (hb : ∀ k, 1 ≤ k → k < K → b (k + 1) = 1#1 → b k = 1#1) :
    ∃ n, n ≤ K ∧ countWord b K = BitVec.ofNat 32 n ∧ ∀ k, 1 ≤ k → k ≤ K → (b k = 1#1 ↔ k ≤ n) := by
  induction K with
  | zero => exact ⟨0, le_rfl, rfl, fun k h1 h2 => by omega⟩
  | succ K ih =>
    obtain ⟨n, hn, hw, hk⟩ := ih fun k h1 h2 => hb k h1 (by omega)
    rcases BitVec.eq_zero_or_eq_one (b (K + 1)) with h0 | h1
    · refine ⟨n, by omega, ?_, fun k h1 h2 => ?_⟩
      · rw [countWord, h0, hw]; simp
      · rcases Nat.lt_or_ge K k with h | h
        · obtain rfl : k = K + 1 := by omega
          rw [h0]; constructor
          · intro h; exact absurd h (by decide)
          · intro h; omega
        · exact hk k h1 h
    · have hnK : n = K := by
        rcases Nat.eq_zero_or_pos K with h | h
        · omega
        · have := (hk K h le_rfl).mp (hb K h (Nat.lt_succ_self K) h1)
          omega
      subst hnK
      refine ⟨n + 1, le_rfl, ?_, fun k h1' h2 => ?_⟩
      · rw [countWord, h1, hw]
        have : BitVec.setWidth 32 1#1 = BitVec.ofNat 32 1 := rfl
        rw [this, ← BitVec.ofNat_add]
      · rcases Nat.lt_or_ge n k with h | h
        · obtain rfl : k = n + 1 := by omega
          simp [h1]
        · have := hk k h1' h
          constructor
          · intro _; omega
          · intro _; exact this.mpr h

/-! ## The interpolation -/

/-- One (input, output) pair as the precondition gives it, over the real numbers: sorted knots from -1 to 1, and values on
    the line through the first and the last. -/
structure Affine (P V : ℕ → ℝ) : Prop where
  first : P 0 = -1
  last : P 15 = 1
  sorted : ∀ k, k < 15 → P k ≤ P (k + 1)
  line : ∀ k, k < 16 → 2 * (V k - V 0) = (V 15 - V 0) * (P k + 1)

/-- The knots on the two sides of a number `ξ` between -1 and 0, found by the count of the inner knots not above it. -/
theorem bracket {P V : ℕ → ℝ} (h : Affine P V) {ξ : ℝ} (h0 : -1 ≤ ξ) (h1 : ξ ≤ 0) {n : ℕ} (hn : n ≤ 14)
    (hk : ∀ k, 1 ≤ k → k ≤ 14 → (P k ≤ ξ ↔ k ≤ n)) : P n ≤ ξ ∧ ξ < P (n + 1) := by
  constructor
  · rcases Nat.eq_zero_or_pos n with rfl | hp
    · rw [h.first]; exact h0
    · exact (hk n hp hn).mpr le_rfl
  · rcases Nat.lt_or_ge n 14 with hlt | hge
    · refine not_le.mp fun hle => ?_
      have := (hk (n + 1) (by omega) (by omega)).mp hle
      omega
    · obtain rfl : n = 14 := by omega
      rw [h.last]; linarith

/-- The reference's interpolation between two knots, as it is computed: the quotient is guarded against equal knots and
    clipped to [0, 1]. -/
def interp (ξ p q v w : EReal) : EReal :=
  v + min 1 (max 0 (if q - p = 0 then 0 else Ideal.div (ξ - p) (if q - p = 0 then 1 else q - p))) * (w - v)

/-- Between the two knots around `ξ`, the guard and the clip do nothing, and the interpolation of values on a line is the
    line's value at `ξ`, taken from the first and the last value alone. -/
theorem interp_affine {P V : ℕ → ℝ} (h : Affine P V) {ξ : ℝ} {n : ℕ} (hn : n ≤ 14) (hl : P n ≤ ξ)
    (hr : ξ < P (n + 1)) :
    interp (ξ : EReal) (P n : EReal) (P (n + 1) : EReal) (V n : EReal) (V (n + 1) : EReal)
      = (V 0 : EReal) + ((ξ : EReal) - ((-1 : ℝ) : EReal)) * ((1 / 2 : ℝ) : EReal) * ((V 15 : EReal) - (V 0 : EReal)) := by
  have hd : 0 < P (n + 1) - P n := by linarith
  have hne : ¬ ((P (n + 1) : EReal) - (P n : EReal) = 0) := by
    rw [← EReal.coe_sub]
    exact_mod_cast hd.ne'
  have hdiv : Ideal.div ((ξ : EReal) - (P n : EReal)) ((P (n + 1) : EReal) - (P n : EReal))
      = (((ξ - P n) / (P (n + 1) - P n) : ℝ) : EReal) := by
    rw [← EReal.coe_sub, ← EReal.coe_sub, Ideal.div_coe hd.ne', ← EReal.coe_mul, mul_one_div]
  set t : ℝ := (ξ - P n) / (P (n + 1) - P n) with ht
  have t0 : 0 ≤ t := div_nonneg (by linarith) hd.le
  have t1 : t ≤ 1 := (div_le_one hd).mpr (by linarith)
  have hclip : min (1 : EReal) (max 0 (t : EReal)) = (t : EReal) := by
    rw [max_eq_right (by exact_mod_cast t0), min_eq_right (by exact_mod_cast t1)]
  unfold interp
  rw [if_neg hne, if_neg hne, hdiv, hclip]
  norm_cast
  have htd : t * (P (n + 1) - P n) = ξ - P n := by rw [ht]; field_simp
  have l0 := h.line n (by omega)
  have l1 := h.line (n + 1) (by omega)
  have e0 : V n = V 0 + (V 15 - V 0) * (P n + 1) / 2 := by linarith
  have e1 : V (n + 1) - V n = (V 15 - V 0) * (P (n + 1) - P n) / 2 := by
    have : V (n + 1) = V 0 + (V 15 - V 0) * (P (n + 1) + 1) / 2 := by linarith
    rw [this, e0]; ring
  have : t * (V (n + 1) - V n) = (V 15 - V 0) * (ξ - P n) / 2 := by rw [e1, ← htd]; ring
  rw [this, e0]; push_cast; ring

end Cert.Spline

end
-- ==== Proof.Consts.lean ====
/-
  The float constants the programs and the precondition name, as extended reals.
-/
module

public import Idealize.ShloMosaic.PureOps.Ideal.Laws

@[expose] public section

namespace Cert.Spline

open Idealize.ShloMosaic

/-- The pattern of `-1.0` is the real -1. -/
theorem bits_neg_one : Ideal.ofBits .f32 0xBF800000#32 = ((-1 : ℝ) : EReal) := by
  simp [Ideal.ofBits, Ideal.ieee, -EReal.coe_mul, -EReal.coe_neg]; norm_num

/-- The pattern of `0.5` is the real one half. -/
theorem bits_half : Ideal.ofBits .f32 0x3F000000#32 = ((1 / 2 : ℝ) : EReal) := by
  simp [Ideal.ofBits, Ideal.ieee, -EReal.coe_mul]; norm_num

/-- The pattern of `2.0` is the real 2. -/
theorem bits_two : Ideal.ofBits .f32 0x40000000#32 = ((2 : ℝ) : EReal) := by
  simp [Ideal.ofBits, Ideal.ieee, -EReal.coe_mul]; norm_num

/-- The pattern of `inf` is `⊤`. -/
theorem bits_inf : Ideal.ofBits .f32 0x7F800000#32 = ⊤ := by
  simp [Ideal.ofBits, Ideal.ieee]

end Cert.Spline
-- ==== Proof.Knots.lean ====
/-
  What the precondition says of one (input, output) pair: its sixteen knots and its sixteen values are real numbers, the
  knots are sorted from -1 to 1, and the values lie on the line through the first and the last (`splines_of_pre`).
-/
module

public import proofs.«01_k».proof.Pre_affine_splines
public import proofs.«01_k».proof.Proof.Spline
public import proofs.«01_k».proof.Proof.Consts
public import Idealize.ShloMosaic.Lib.Pointwise
public import Idealize.ShloMosaic.Lib.Decide

@[expose] public section

noncomputable section

namespace Cert.Spline

open Cert.Pre_affine_splines Idealize.ShloMosaic

/-- The shape relations the predicate's operations take. -/
theorem facts : Cert.Pre_affine_splines.Facts where
  slices_S128x128x16_S128x128x1_0_0_0 := by decide
  slices_S128x128x16_S128x128x1_0_0_15 := by decide
  shapeCasts_S128x128x1_S128x128 := by decide
  bcast_S_S128x128 := by decide
  slices_S128x128x16_S128x128x15_0_0_0 := by decide
  slices_S128x128x16_S128x128x15_0_0_1 := by decide
  bcast_S_S128x128x16 := by decide
  bcast_S128x128x1_S128x128x16_0_1_2 := by decide

/-- A decided bit is set exactly when the proposition holds. -/
theorem ofBool_decide_eq_one {p : Prop} [Decidable p] : BitVec.ofBool (decide p) = 1#1 ↔ p := by
  by_cases h : p <;> simp [h]

/-- The knots `p` and the values `v` of every pair, read as real numbers, satisfy the precondition. -/
structure Splines (p v : FVec Ideal S128x128x16 .f32) (P V : Fin 128 → Fin 128 → ℕ → ℝ) : Prop where
  knot : ∀ i o (k : Fin 16), p (ix3 i o k) = ((P i o k.val : ℝ) : EReal)
  value : ∀ i o (k : Fin 16), v (ix3 i o k) = ((V i o k.val : ℝ) : EReal)
  affine : ∀ i o, Affine (P i o) (V i o)

/-- An extended real between two real numbers is its own real part. -/
theorem coe_toReal_of_between {x : EReal} {a b : ℝ} (ha : (a : EReal) ≤ x) (hb : x ≤ (b : EReal)) :
    x = ((x.toReal : ℝ) : EReal) :=
  (EReal.coe_toReal (fun h => by rw [h, top_le_iff] at hb; exact EReal.coe_ne_top b hb)
    (fun h => by rw [h, le_bot_iff] at ha; exact EReal.coe_ne_bot a ha)).symm

/-- An extended real whose absolute value is below `⊤` is its own real part. -/
theorem coe_toReal_of_abs {x : EReal} (h : max x (-x) < ⊤) : x = ((x.toReal : ℝ) : EReal) := by
  rw [max_lt_iff] at h
  exact (EReal.coe_toReal h.1.ne fun hx => by simp [hx] at h).symm

/-- A row of sixteen extended reals that is sorted lies between its first and its last. -/
theorem between_of_sorted (q : Fin 16 → EReal) (hs : ∀ k : Fin 15, q k.castSucc ≤ q k.succ) (k : Fin 16) :
    q 0 ≤ q k ∧ q k ≤ q 15 :=
  have hm : Monotone q := Fin.monotone_iff_le_succ.mpr hs
  ⟨hm (Fin.zero_le k), hm (Fin.le_last k)⟩

/-- THE PRECONDITION, DECODED: where its five masks are all ones, the knots and the values are real numbers that satisfy
    `Affine` in every pair. -/
theorem splines_of_pre [Facts] (x : FVec Ideal S1024x128 .f32) (p v : FVec Ideal S128x128x16 .f32)
    (h : (fn x p v).1 = (fun _ => 1#1) ∧ (fn x p v).2.1 = (fun _ => 1#1) ∧ (fn x p v).2.2.1 = (fun _ => 1#1)
      ∧ (fn x p v).2.2.2.1 = (fun _ => 1#1) ∧ (fn x p v).2.2.2.2 = (fun _ => 1#1)) :
    Splines p v (fun i o k => (p (ix3 i o (Fin.ofNat 16 k))).toReal) (fun i o k => (v (ix3 i o (Fin.ofNat 16 k))).toReal) := by
  obtain ⟨h1, h2, h3, h4, h5⟩ := h
  have first : ∀ i o, p (ix3 i o 0) = ((-1 : ℝ) : EReal) := fun i o => by
    have e := congrFun h1 (ix2 i o)
    pointwise [fn, fn_part1] at e
    rwa [ofBool_decide_eq_one, bits_neg_one] at e
  have last : ∀ i o, p (ix3 i o 15) = ((1 : ℝ) : EReal) := fun i o => by
    have e := congrFun h2 (ix2 i o)
    pointwise [fn, fn_part1] at e
    rw [ofBool_decide_eq_one] at e
    rw [e]; norm_cast
  have sorted : ∀ i o (k : Fin 15), p (ix3 i o k.castSucc) ≤ p (ix3 i o k.succ) := fun i o k => by
    have e := congrFun h3 (ix3 i o k)
    pointwise [fn, fn_part1] at e
    rw [ofBool_decide_eq_one] at e
    have hk : (⟨1 + k.val, by omega⟩ : Fin 16) = k.succ := Fin.ext (Nat.add_comm _ _)
    rw [← hk]; exact e
  have finite : ∀ i o (k : Fin 16), max (v (ix3 i o k)) (-v (ix3 i o k)) < ⊤ := fun i o k => by
    have e := congrFun h4 (ix3 i o k)
    pointwise [fn, fn_part1] at e
    rwa [ofBool_decide_eq_one, bits_inf] at e
  have line : ∀ i o (k : Fin 16), ((2 : ℝ) : EReal) * (v (ix3 i o k) - v (ix3 i o 0))
      = (v (ix3 i o 15) - v (ix3 i o 0)) * (p (ix3 i o k) + 1) := fun i o k => by
    have e := congrFun h5 (ix3 i o k)
    pointwise [fn, fn_part1] at e
    rwa [ofBool_decide_eq_one, bits_two] at e
  have hfin : ∀ k : Fin 16, Fin.ofNat 16 k.val = k := fun k => Fin.ext (Nat.mod_eq_of_lt k.isLt)
  have knot : ∀ i o (k : Fin 16), p (ix3 i o k) = (((p (ix3 i o k)).toReal : ℝ) : EReal) := fun i o k => by
    have hb := between_of_sorted (fun k => p (ix3 i o k)) (sorted i o) k
    exact coe_toReal_of_between ((first i o).symm.le.trans hb.1) (hb.2.trans (last i o).le)
  have value : ∀ i o (k : Fin 16), v (ix3 i o k) = (((v (ix3 i o k)).toReal : ℝ) : EReal) := fun i o k =>
    coe_toReal_of_abs (finite i o k)
  refine ⟨fun i o k => ?_, fun i o k => ?_, fun i o => ⟨?_, ?_, fun k hk => ?_, fun k hk => ?_⟩⟩
  · rw [hfin]; exact knot i o k
  · rw [hfin]; exact value i o k
  · show (p (ix3 i o 0)).toReal = -1
    rw [first, EReal.toReal_coe]
  · show (p (ix3 i o 15)).toReal = 1
    rw [last, EReal.toReal_coe]
  · have e := sorted i o ⟨k, hk⟩
    rw [knot i o (Fin.castSucc ⟨k, hk⟩), knot i o (Fin.succ ⟨k, hk⟩), EReal.coe_le_coe_iff] at e
    have e0 : Fin.ofNat 16 k = Fin.castSucc ⟨k, hk⟩ := hfin (Fin.castSucc ⟨k, hk⟩)
    have e1 : Fin.ofNat 16 (k + 1) = Fin.succ ⟨k, hk⟩ := hfin (Fin.succ ⟨k, hk⟩)
    rw [e0, e1]; exact e
  · have e := line i o ⟨k, hk⟩
    rw [knot i o ⟨k, hk⟩, value i o ⟨k, hk⟩, value i o 0, value i o 15] at e
    have e0 : Fin.ofNat 16 k = ⟨k, hk⟩ := hfin ⟨k, hk⟩
    rw [e0]
    exact_mod_cast e

end Cert.Spline

end
-- ==== Proof.Layer.lean ====
/-
  The layer's value as one function of the input and the value table: what both programs are shown to compute.
-/
module

public import proofs.«01_k».proof.Proof.Spline
public import Idealize.ShloMosaic.Lib.Pointwise

@[expose] public section

noncomputable section

namespace Cert.Spline

open Idealize.ShloMosaic

/-- The layer's value at batch entry `b` and output `o`, from the first and the last value of each pair: every input's
    folded position on [-1, 1] as a fraction, times the pair's rise, summed over the inputs, and to it the sum of the
    first values. -/
def layer (x : (⟨2, ![1024, 128]⟩ : Shape).Idx → EReal) (v : (⟨3, ![128, 128, 16]⟩ : Shape).Idx → EReal)
    (b : Fin 1024) (o : Fin 128) : EReal :=
  ∑ i : Fin 128, (folded (x (ix2 b i)) - ((-1 : ℝ) : EReal)) * ((1 / 2 : ℝ) : EReal) * (v (ix3 i o 15) - v (ix3 i o 0))
    + ∑ i : Fin 128, v (ix3 i o 0)

end Cert.Spline

end
-- ==== Proof.KernelValue.lean ====
/-
  What the kernel leaves in its result array, as a function of the arguments' elements.

  The kernel is launched once over whole arrays: the input, and the first and the last value of every pair, which the
  host slices out of the value table. Its one store writes the whole result array (`final_value`); read at an index, the
  result is `layer` there (`kernel_value`).
-/
module

public import proofs.«01_k».proof.Proof.Layer
public import proofs.«01_k».proof.Proof.Consts
public import proofs.«01_k».proof.Proof.Gen.KernelIdeal.Value
public import Idealize.ShloMosaic.Lib.Pointwise
public import Idealize.ShloMosaic.Lib.StableHlo.ReadAt

@[expose] public section

noncomputable section

namespace Cert.Spline

open Cert.KernelIdeal Cert.KernelIdeal.Gen Idealize.ShloMosaic Idealize.ShloMosaic.TcCoe Idealize.SL.Sem

/-! ## The stored value -/

/-- The kernel body's stored value at an index, from its three operands. -/
theorem pay_apply (x : Vec Ideal S1024x128 .f32) (v0 v1 : Vec Ideal S128x128 .f32) (b : Fin 1024) (o : Fin 128) :
    k0_pay1 x v0 v1 (ix2 b o)
      = ∑ i : Fin 128, (folded (x (ix2 b i)) - ((-1 : ℝ) : EReal)) * ((1 / 2 : ℝ) : EReal) * (v1 (ix2 i o) - v0 (ix2 i o))
        + ∑ i : Fin 128, v0 (ix2 i o) := by
  pointwise [k0_pay1]
  rw [bits_neg_one, bits_half]
  rfl

/-! ## The operands -/

section Launch
variable (m : (ℓ : Loc nD τ sig) → Buf (Elt Ideal) ℓ) (c : Dev nD)

/-- The second operand is the first value of each pair. -/
theorem firsts_apply (i o : Fin 128) :
    V m c main_v1 (ix2 i o) = m ((c : Thread nD τ).loc main_arg2) (ix3 i o 0) := by
  unfold V
  after_reads_at

/-- The third operand is the last value of each pair. -/
theorem lasts_apply (i o : Fin 128) :
    V m c main_v3 (ix2 i o) = m ((c : Thread nD τ).loc main_arg2) (ix3 i o 15) := by
  unfold V
  after_reads_at

/-! ## The result array -/

/-- The launch's one point. -/
abbrev t₀ : Fin cfg0.N := (0 : Fin 1)

/-- The result array after the run, read through its one block, is what the body left there. -/
theorem final_out : ((cfg0.win 3).blk t₀).view.read (Elt Ideal) ((dats m 0 c).arrAt 3 cfg0.N) = (dats m 0 c).flushed 3 t₀ :=
  Value.blocks3 m c t₀ (flush0_3 t₀)

/-- The result array after the run is the body's stored value of the three operands. -/
theorem final_value : (dats m 0 c).arrAt 3 cfg0.N
    = k0_pay1 (m ((c : Thread nD τ).loc main_arg0)) (V m c main_v1) (V m c main_v3) := by
  have ho := final_out m c
  rw [Value.flushed3] at ho
  have hz : (![0, 0] : Fin S1024x128.rank → Nat) = fun _ => 0 := funext fun a => by fin_cases a <;> rfl
  have hz' : (![0, 0] : Fin S128x128.rank → Nat) = fun _ => 0 := funext fun a => by fin_cases a <;> rfl
  unfold out0_3 at ho
  rw [View.canon_unit_zero hz, View.ld_unit_zero hz, View.ld_unit_zero hz', View.ld_unit_zero hz'] at ho
  unfold iblk at ho
  have h3 : (fun a => win0_3.index t₀ a * main_v4.ty.shape.size a) = fun _ => 0 := funext fun a => by fin_cases a <;> decide
  have hr3 := fun f => Memref.read_access_unit_zero (Elt Ideal) main_v4 h3 (fun a => by fin_cases a <;> decide) f
  have h0 : (fun a => win0_0.index t₀ a * main_arg0.ty.shape.size a) = fun _ => 0 := funext fun a => by fin_cases a <;> decide
  have hr0 := fun f => Memref.read_access_unit_zero (Elt Ideal) main_arg0 h0 (fun a => by fin_cases a <;> decide) f
  have h1 : (fun a => win0_1.index t₀ a * main_v1.ty.shape.size a) = fun _ => 0 := funext fun a => by fin_cases a <;> decide
  have hr1 := fun f => Memref.read_access_unit_zero (Elt Ideal) main_v1 h1 (fun a => by fin_cases a <;> decide) f
  have h2 : (fun a => win0_2.index t₀ a * main_v3.ty.shape.size a) = fun _ => 0 := funext fun a => by fin_cases a <;> decide
  have hr2 := fun f => Memref.read_access_unit_zero (Elt Ideal) main_v3 h2 (fun a => by fin_cases a <;> decide) f
  rw [hr0, hr1, hr2] at ho
  rw [← V_main_arg0 m c]
  exact (hr3 _).symm.trans ho

/-- The result array after the run, at an index. -/
theorem kernel_value (b : Fin 1024) (o : Fin 128) : (dats m 0 c).arrAt 3 cfg0.N (ix2 b o)
    = layer (m ((c : Thread nD τ).loc main_arg0)) (m ((c : Thread nD τ).loc main_arg2)) b o := by
  rw [final_value, pay_apply]
  unfold layer
  congr 1
  · refine Finset.sum_congr rfl fun i _ => ?_
    rw [firsts_apply m c i o, lasts_apply m c i o]
  · exact Finset.sum_congr rfl fun i _ => firsts_apply m c i o

end Launch

end Cert.Spline

end
-- ==== Proof.RefOps.lean ====
/-
  Reading along the knot axis: `take_along_axis` of a [128, 128, 16] table at a [1024, 128, 128] array of numbers, as the
  reference spells it, read at one index (`takeAlong_apply`).

  The reference adds 16 to a negative number, checks that what comes out is between 0 and 15, gathers with it, and puts a
  not-a-number constant where the check fails. At a number below sixteen none of that happens: the result is the table's
  entry there.
-/
module

public import proofs.«01_k».proof.Proof.Gen.ReferenceIdeal
public import Idealize.ShloMosaic.Lib.Pointwise

@[expose] public section

noncomputable section

namespace Cert.Spline

open Cert.ReferenceIdeal Cert.ReferenceIdeal.Gen Idealize.ShloMosaic

/-! ## The operation, as the reference spells it -/

/-- The numbers with 16 added to the negative ones, as the gather's start indices. -/
def startWords (w : IVec S1024x128x128 32) : IVec S1024x128x128x1x1 32 :=
  let col := broadcastInDim S1024x128x128x1 ![0, 1, 2] bcast_S1024x128x128_S1024x128x128x1_0_1_2 w
  shapeCast _ (select (cmpi .slt col (broadcastInDim S1024x128x128x1 ![] bcast_S_S1024x128x128x1 (constantI S_ 32 0#32)))
    (addi col (broadcastInDim S1024x128x128x1 ![] bcast_S_S1024x128x128x1 (constantI S_ 32 16#32))) col)
    shapeCasts_S1024x128x128x1_S1024x128x128x1x1

/-- The bit that says a start index is between 0 and 15. -/
def inRange (w : IVec S1024x128x128 32) : IVec S1024x128x128x1 1 :=
  Host.reduce IntOp.andi
    (andi (cmpi .sge (startWords w) (broadcastInDim S1024x128x128x1x1 ![] bcast_S_S1024x128x128x1x1 (constantI S_ 32 0#32)))
      (cmpi .sle (startWords w) (broadcastInDim S1024x128x128x1x1 ![0, 1, 2, 3, 4]
        bcast_S1x1x1x1x1_S1024x128x128x1x1_0_1_2_3_4
        (broadcastInDim S1x1x1x1x1 ![4] bcast_S1_S1x1x1x1x1_4 (constantI S1 32 15#32)))))
    (constantI S_ 1 1#1) reducesTo_S1024x128x128x1x1_S1024x128x128x1_d4 h_S_

/-- `take_along_axis(T[None], w[..., None], axis=3)[..., 0]`. -/
def takeAlong (T : FVec Ideal S128x128x16 .f32) (w : IVec S1024x128x128 32) : FVec Ideal S1024x128x128 .f32 :=
  shapeCast _ (select (inRange w)
    (Host.gather gather_S128x128x16_S1024x128x128x1x1_S1024x128x128x1_n_2_01_12_2_4_111
      (shapeCast _ (broadcastInDim S1x128x128x16 ![1, 2, 3] bcast_S128x128x16_S1x128x128x16_1_2_3 T)
        shapeCasts_S1x128x128x16_S128x128x16) (startWords w))
    (broadcastInDim S1024x128x128x1 ![] bcast_S_S1024x128x128x1 (constant S_ .f32 0x7FC00000#32)))
    shapeCasts_S1024x128x128x1_S1024x128x128

/-! ## Words below sixteen -/

/-- The wrap of negative numbers leaves a number below sixteen. -/
theorem wrap_word : ∀ n : Fin 16, Scalar.select (IntOp.cmpi .slt (BitVec.ofNat 32 n.val) 0#32)
    (IntOp.addi (BitVec.ofNat 32 n.val) 16#32) (BitVec.ofNat 32 n.val) = BitVec.ofNat 32 n.val := by decide

/-- A number below sixteen passes the range check. -/
theorem range_word : ∀ n : Fin 16, IntOp.andi (IntOp.cmpi .sge (BitVec.ofNat 32 n.val) 0#32)
    (IntOp.cmpi .sle (BitVec.ofNat 32 n.val) 15#32) = 1#1 := by decide

/-- A number below sixteen, read signed and clamped into the knot axis, is itself. -/
theorem clamp_word : ∀ n : Fin 16, min (BitVec.ofNat 32 n.val).toInt.toNat 15 = n.val := by decide

/-! ## The pieces at an index -/

section At
variable {w : IVec S1024x128x128 32} {b : Fin 1024} {i o : Fin 128} {n : Fin 16}

/-- The start index of a number below sixteen is that number. -/
theorem startWords_apply (h : w (ix3 b i o) = BitVec.ofNat 32 n.val) :
    startWords w (ix5 b i o 0 0) = BitVec.ofNat 32 n.val := by
  pointwise [startWords]
  rw [h, wrap_word]

/-- The range check's bit at a number below sixteen is set. -/
theorem inRange_apply (h : w (ix3 b i o) = BitVec.ofNat 32 n.val) : inRange w (ix4 b i o 0) = 1#1 := by
  pointwise [inRange]
  rw [show (Finset.univ : Finset (Fin 1)) = {0} from rfl, Finset.fold_singleton, startWords_apply h, range_word]
  rfl

/-- The gather at a start index below sixteen: the table's entry of the pair at that number. -/
theorem gather_apply (x : S128x128x16.Idx → EReal) (idx : IVec S1024x128x128x1x1 32)
    (h : idx (ix5 b i o 0 0) = BitVec.ofNat 32 n.val) :
    Host.gather gather_S128x128x16_S1024x128x128x1x1_S1024x128x128x1_n_2_01_12_2_4_111 x idx (ix4 b i o 0)
      = x (ix3 i o n) := by
  unfold Host.gather
  congr 1
  set d := gather_S128x128x16_S1024x128x128x1x1_S1024x128x128x1_n_2_01_12_2_4_111 with hd
  funext a
  refine Fin.ext ?_
  show d.start (ix4 b i o 0) idx a + d.batchCoord (ix4 b i o 0) a + d.offCoord (ix4 b i o 0) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  have hoff : d.offCoord (ix4 b i o 0) a = 0 := GatherDims.offCoord_eq_zero _ _ _ fun hm => by
    have := (GatherDims.mem_sKept _ _).mp hm
    rcases ha with rfl | rfl | rfl
    · exact this.2 (by decide)
    · exact this.2 (by decide)
    · exact this.1 (by decide)
  rw [hoff, Nat.add_zero]
  rcases ha with rfl | rfl | rfl
  · rw [GatherDims.start_batching _ _ _ _ (by decide), Nat.zero_add]
    unfold GatherDims.batchCoord
    rw [dif_pos (by decide)]
    rfl
  · rw [GatherDims.start_batching _ _ _ _ (by decide), Nat.zero_add]
    unfold GatherDims.batchCoord
    rw [dif_pos (by decide)]
    rfl
  · rw [GatherDims.batchCoord_eq_zero _ _ _ (by decide), Nat.add_zero]
    unfold GatherDims.start
    rw [dif_pos (by decide)]
    have hsi : ∀ c, d.siIdx (ix4 b i o 0) c = ix5 b i o 0 0 := fun c => by
      funext e; refine Fin.ext ?_
      match e with
      | ⟨0, _⟩ => rfl
      | ⟨1, _⟩ => rfl
      | ⟨2, _⟩ => rfl
      | ⟨3, _⟩ => rfl
      | ⟨4, _⟩ => exact Nat.lt_one_iff.mp c.isLt
    rw [hsi, h]
    exact clamp_word n

/-- Reading along the knot axis at a number below sixteen is the table's entry at that number. -/
theorem takeAlong_apply (T : FVec Ideal S128x128x16 .f32) (h : w (ix3 b i o) = BitVec.ofNat 32 n.val) :
    takeAlong T w (ix3 b i o) = T (ix3 i o n) := by
  pointwise [takeAlong]
  rw [inRange_apply h, ValueIdx.select_one, gather_apply _ _ (startWords_apply h)]
  pointwise

end At

end Cert.Spline

end
-- ==== Proof.RefValue.lean ====
/-
  What the reference computes, read at one index in the terms of `Spline`.

  The reference folds the input (`folded_apply`), counts the inner knots at or left of it (`segment_apply`), reads the
  two knots and the two values around it (`takeAlong`), and interpolates and sums (`combine_apply`).
-/
module

public import proofs.«01_k».proof.Proof.Spline
public import proofs.«01_k».proof.Proof.Consts
public import proofs.«01_k».proof.Proof.RefOps
public import proofs.«01_k».proof.Proof.Gen.ReferenceIdeal.Run
public import Idealize.ShloMosaic.Lib.Pointwise
public import Idealize.ShloMosaic.Lib.Tactic.CleanTypes

@[expose] public section

noncomputable section

namespace Cert.Spline

open Cert.ReferenceIdeal Cert.ReferenceIdeal.Gen Cert.ReferenceIdeal.Value Idealize.ShloMosaic Idealize.ShloMosaic.TcCoe

variable (V0 : Valuation τ sig (Elt Ideal))

/-- The input, as the reference's operations hold it. -/
abbrev refX : FVec Ideal S1024x128 .f32 := V0 (Proc.devRef .tc main_arg0)
/-- The knot positions. -/
abbrev refP : FVec Ideal S128x128x16 .f32 := V0 (Proc.devRef .tc main_arg1)
/-- The knot values. -/
abbrev refV : FVec Ideal S128x128x16 .f32 := V0 (Proc.devRef .tc main_arg2)

/-! ## The interpolation step, as the reference spells it -/

/-- From the folded input, the left and the right knot and the left and the right value: the clipped fraction of the
    segment, the value there, and the sum over the inputs. -/
def combine (x : FVec Ideal S1024x128x1 .f32) (p q v w : FVec Ideal S1024x128x128 .f32) : FVec Ideal S1024x128 .f32 :=
  let zero := broadcastInDim S1024x128x128 ![] bcast_S_S1024x128x128 (constant (F := Ideal) S_ .f32 0x00000000#32)
  let one := broadcastInDim S1024x128x128 ![] bcast_S_S1024x128x128 (constant (F := Ideal) S_ .f32 0x3F800000#32)
  let gap := subf q p
  let flat := cmpf .oeq gap zero
  let frac := select flat zero (Host.divf
    (subf (broadcastInDim S1024x128x128 ![0, 1, 2] bcast_S1024x128x1_S1024x128x128_0_1_2 x) p) (select flat one gap))
  Host.reduceAdd (addf v (mulf (minimumf one (maximumf zero frac)) (subf w v)))
    (constant S_ .f32 0x00000000#32) reducesTo_S1024x128x128_S1024x128_d1 h_S_

/-- The interpolation step at an index is the sum of the segments' interpolations. -/
theorem combine_apply (x : FVec Ideal S1024x128x1 .f32) (p q v w : FVec Ideal S1024x128x128 .f32) (b : Fin 1024)
    (o : Fin 128) : combine x p q v w (ix2 b o)
      = ∑ i : Fin 128, interp (x (ix3 b i 0)) (p (ix3 b i o)) (q (ix3 b i o)) (v (ix3 b i o)) (w (ix3 b i o)) := by
  pointwise [combine]
  rfl

/-! ## The reference's named arrays -/

/-- The folded input: the distance to zero, negated, and clipped to [-1, 1]. -/
theorem folded_apply (b : Fin 1024) (i : Fin 128) :
    (res_main_v5 V0 : FVec Ideal S1024x128x1 .f32) (ix3 b i 0) = folded (refX V0 (ix2 b i)) := by
  unfold res_main_v5
  clean_types
  pointwise
  exact (congrArg₂ (fun lo hi : EReal => min hi (max lo _)) bits_neg_one Ideal.ofBits_one_f32).trans (clip_fold _)

/-- The number of inner knots at or left of the folded input. -/
abbrev segment : IVec S1024x128x128 32 := res_main_v118 V0

/-- The segment's number, at an index: the fourteen inner knots' comparison bits, counted. -/
theorem segment_apply (b : Fin 1024) (i o : Fin 128) : segment V0 (ix3 b i o)
    = countWord (fun k => BitVec.ofBool
        (decide (refP V0 (ix3 i o (Fin.ofNat 16 k)) ≤ folded (refX V0 (ix2 b i))))) 14 := by
  rw [← folded_apply]
  unfold segment res_main_v118 res_main_v78
  clean_types
  pointwise
  rfl

/-- The next knot's number. -/
def next : IVec S1024x128x128 32 :=
  addi (segment V0) (broadcastInDim S1024x128x128 ![] bcast_S_S1024x128x128 (constantI S_ 32 1#32))

/-- The next knot's number, at an index. -/
theorem next_apply (b : Fin 1024) (i o : Fin 128) : next V0 (ix3 b i o) = segment V0 (ix3 b i o) + 1#32 := by
  pointwise [next]
  rfl

/-- The reference's result is the interpolation step of the folded input and the four readings along the knot axis. -/
theorem out_eq : (val3 V0 (Proc.devRef .tc main_v151) : FVec Ideal S1024x128 .f32)
    = combine (res_main_v5 V0) (takeAlong (refP V0) (segment V0)) (takeAlong (refP V0) (next V0))
        (takeAlong (refV V0) (segment V0)) (takeAlong (refV V0) (next V0)) :=
  (val3_main_v151 V0).trans rfl

end Cert.Spline

end
-- ==== Proof.Equation.lean ====
/-
  The reference's result is the layer's value, on tables the precondition allows.

  Per input, the count of the inner knots is the number of the segment that holds the folded input (`segment_spec`);
  the four readings are that segment's knots and values, whose interpolation is the line's value (`reading_value`); and
  summing over the inputs separates the first values from the rises (`reference_value`).
-/
module

public import proofs.«01_k».proof.Proof.Knots
public import proofs.«01_k».proof.Proof.Layer
public import proofs.«01_k».proof.Proof.RefValue

@[expose] public section

noncomputable section

namespace Cert.Spline

open Cert.ReferenceIdeal Cert.ReferenceIdeal.Gen Cert.ReferenceIdeal.Value Idealize.ShloMosaic Idealize.ShloMosaic.TcCoe

variable (V0 : Valuation τ sig (Elt Ideal)) {P V : Fin 128 → Fin 128 → ℕ → ℝ}

/-- The count is the number `n` of the segment that holds the folded input `ξ`: `n` is at most fourteen, and `ξ` is at or
    right of knot `n` and left of knot `n + 1`. -/
theorem segment_spec (hs : Splines (refP V0) (refV V0) P V) (b : Fin 1024) (i o : Fin 128) {ξ : ℝ} (h0 : -1 ≤ ξ)
    (h1 : ξ ≤ 0) (hξ : folded (refX V0 (ix2 b i)) = (ξ : EReal)) :
    ∃ n, n ≤ 14 ∧ segment V0 (ix3 b i o) = BitVec.ofNat 32 n ∧ P i o n ≤ ξ ∧ ξ < P i o (n + 1) := by
  have hbit : ∀ k, k ≤ 14 → (BitVec.ofBool (decide (refP V0 (ix3 i o (Fin.ofNat 16 k)) ≤ folded (refX V0 (ix2 b i))))
      = 1#1 ↔ P i o k ≤ ξ) := fun k hk => by
    rw [ofBool_decide_eq_one, hs.knot, hξ, EReal.coe_le_coe_iff,
      show (Fin.ofNat 16 k).val = k from Nat.mod_eq_of_lt (by omega)]
  obtain ⟨n, hn, hw, hk⟩ := countWord_spec (fun k => BitVec.ofBool
    (decide (refP V0 (ix3 i o (Fin.ofNat 16 k)) ≤ folded (refX V0 (ix2 b i))))) 14 fun k _ hk h => by
      rw [hbit k (by omega)]
      exact ((hs.affine i o).sorted k (by omega)).trans ((hbit (k + 1) (by omega)).mp h)
  exact ⟨n, hn, (segment_apply V0 b i o).trans hw,
    bracket (hs.affine i o) h0 h1 hn fun k h1 h2 => (hbit k h2).symm.trans (hk k h1 h2)⟩

/-- One input's interpolation is its first value, and the folded input as a fraction of [-1, 1] times the rise. -/
theorem reading_value (hs : Splines (refP V0) (refV V0) P V) (b : Fin 1024) (i o : Fin 128) :
    interp ((res_main_v5 V0 : FVec Ideal S1024x128x1 .f32) (ix3 b i 0)) (takeAlong (refP V0) (segment V0) (ix3 b i o))
        (takeAlong (refP V0) (next V0) (ix3 b i o)) (takeAlong (refV V0) (segment V0) (ix3 b i o))
        (takeAlong (refV V0) (next V0) (ix3 b i o))
      = refV V0 (ix3 i o 0) + (folded (refX V0 (ix2 b i)) - ((-1 : ℝ) : EReal)) * ((1 / 2 : ℝ) : EReal)
        * (refV V0 (ix3 i o 15) - refV V0 (ix3 i o 0)) := by
  obtain ⟨ξ, h0, h1, hξ⟩ := folded_real (refX V0 (ix2 b i))
  obtain ⟨n, hn, hw, hl, hr⟩ := segment_spec V0 hs b i o h0 h1 hξ
  have hw' : segment V0 (ix3 b i o) = BitVec.ofNat 32 (⟨n, by omega⟩ : Fin 16).val := hw
  have hx : next V0 (ix3 b i o) = BitVec.ofNat 32 (⟨n + 1, by omega⟩ : Fin 16).val := by
    rw [next_apply, hw, ← BitVec.ofNat_add]
  rw [folded_apply, takeAlong_apply _ hw', takeAlong_apply _ hx, takeAlong_apply _ hw', takeAlong_apply _ hx, hξ,
    hs.knot, hs.knot, hs.value, hs.value, hs.value, hs.value]
  exact interp_affine (hs.affine i o) hn hl hr

/-- The reference's result is the layer's value, at every index. -/
theorem reference_value (hs : Splines (refP V0) (refV V0) P V) (b : Fin 1024) (o : Fin 128) :
    (val3 V0 (Proc.devRef .tc main_v151) : FVec Ideal S1024x128 .f32) (ix2 b o) = layer (refX V0) (refV V0) b o := by
  rw [out_eq, combine_apply, Finset.sum_congr rfl fun i _ => reading_value V0 hs b i o, Finset.sum_add_distrib,
    add_comm]
  rfl

end Cert.Spline

end
-- ==== Proof.lean ====
/-
  The claims of this directory, proved: `Cert.Proof.claim`.

  * Every program ends, with its arguments unchanged and every semaphore counter at zero (`frame_reference` for the
    reference; the kernel's two are the generated `frame` theorems).
  * Under the precondition the kernel and the reference, read over the extended reals, leave equal result arrays
    (`equal_results`): each is the layer's value (`Proof/Layer.lean`) at every index, the kernel's on all arguments
    (`Proof/KernelValue.lean`), the reference's where the precondition holds (`Proof/Equation.lean`).
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Knots
public import proofs.«01_k».proof.Proof.KernelValue
public import proofs.«01_k».proof.Proof.Equation
public import Idealize.ShloMosaic.Lib.Quiescent

@[expose] public section

noncomputable section

namespace Cert.Proof

open Idealize.ShloMosaic Idealize.SL.Sem

/-- The reference ends with its arguments unchanged; it has no semaphore. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- The result array both programs leave on a device, as the kernel's run names it. -/
abbrev result (m : (ℓ : Loc Cert.KernelIdeal.nD Cert.KernelIdeal.τ Cert.KernelIdeal.sig) → Buf (Elt Ideal) ℓ)
    (c : Dev Cert.KernelIdeal.nD) : (⟨2, ![1024, 128]⟩ : Shape).Idx → EReal :=
  (Cert.KernelIdeal.Gen.dats m 0 c).arrAt 3 Cert.KernelIdeal.cfg0.N

/-- From equal arguments that satisfy the precondition, the reference's result array is the kernel's. -/
theorem reference_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_affine_splines (hPre_affine_splines := Cert.Spline.facts) m) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2)) :
    (Cert.ReferenceIdeal.Value.val3 (StableHlo.launchContents m' c) (Proc.devRef .tc Cert.ReferenceIdeal.main_v151)
      : (⟨2, ![1024, 128]⟩ : Shape).Idx → EReal) = result m c := by
  have hs := @Cert.Spline.splines_of_pre Cert.Spline.facts _ _ _ (hpre c)
  rw [← h1, ← h2] at hs
  funext (j : (⟨2, ![1024, 128]⟩ : Shape).Idx)
  obtain ⟨b, o, rfl⟩ : ∃ b o, j = ix2 b o := ⟨_, _, eq_ix2 j⟩
  refine (Cert.Spline.reference_value (StableHlo.launchContents m' c) hs _ _).trans ?_
  refine Eq.trans ?_ (Cert.Spline.kernel_value m c _ _).symm
  exact congrArg₂ (fun x v => Cert.Spline.layer x v _ _) h0 h2

/-- Under the precondition the kernel and the reference, over the extended reals, leave equal result arrays. -/
theorem equal_results : Cert.algebraic_KernelIdeal_ReferenceIdeal_pre_affine_splines
    (hKernelIdeal := Cert.KernelIdeal.Gen.facts) (hReferenceIdeal := Cert.ReferenceIdeal.Gen.facts)
    (hPre_affine_splines := Cert.Spline.facts) := by
  intro m g m' g' hpre hargs
  refine ⟨result m, Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  exact (Cert.ReferenceIdeal.Value.val3_main_v151 _).symm.trans
    (reference_result m m' hpre c (hargs c).1 (hargs c).2.1 (hargs c).2.2)

/-- All the claims. -/
theorem claim : Cert.Claim :=
  ⟨Cert.Kernel.Gen.facts, Cert.KernelIdeal.Gen.facts, Cert.ReferenceIdeal.Gen.facts, Cert.Spline.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    equal_results⟩

end Cert.Proof

end
